-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x16x4 : Shape := ⟨4, ![64, 256, 16, 4]⟩
abbrev S2x64x256 : Shape := ⟨3, ![2, 64, 256]⟩
abbrev S64x16x4x256 : Shape := ⟨4, ![64, 16, 4, 256]⟩
abbrev S64x128x4x256 : Shape := ⟨4, ![64, 128, 4, 256]⟩
abbrev S16x16x4x256 : Shape := ⟨4, ![16, 16, 4, 256]⟩
abbrev S16x128x4x256 : Shape := ⟨4, ![16, 128, 4, 256]⟩
abbrev S64x512 : Shape := ⟨2, ![64, 512]⟩
abbrev S64x256 : Shape := ⟨2, ![64, 256]⟩
abbrev S1x16x4x256 : Shape := ⟨4, ![1, 16, 4, 256]⟩
abbrev S16x4x256 : Shape := ⟨3, ![16, 4, 256]⟩
abbrev S64x128 : Shape := ⟨2, ![64, 128]⟩
abbrev S64x128x1 : Shape := ⟨3, ![64, 128, 1]⟩
abbrev S1x64x256 : Shape := ⟨3, ![1, 64, 256]⟩
abbrev S512x256 : Shape := ⟨2, ![512, 256]⟩
abbrev S128x4x256 : Shape := ⟨3, ![128, 4, 256]⟩
abbrev S1x128x4x256 : Shape := ⟨4, ![1, 128, 4, 256]⟩
abbrev S64x128x256x4 : Shape := ⟨4, ![64, 128, 256, 4]⟩

abbrev nBuf : Space → Nat
  | .hbm => 5
  | .vmem => 5
  | .smem => 0
  | _ => 0

abbrev bufTy : (tb : Table) → Fin (tcTables nBuf tb) → BufTy
  | .hbm, ⟨0, _⟩ => ⟨S64x256x16x4, .f32⟩
  | .hbm, ⟨1, _⟩ => ⟨S2x64x256, .f32⟩
  | .hbm, ⟨2, _⟩ => ⟨S64x16x4x256, .f32⟩
  | .hbm, ⟨3, _⟩ => ⟨S64x128x4x256, .f32⟩
  | .hbm, ⟨4, _⟩ => ⟨S64x128x256x4, .f32⟩
  | .local _ .vmem, ⟨0, _⟩ => ⟨S16x16x4x256, .f32⟩
  | .local _ .vmem, ⟨1, _⟩ => ⟨S16x16x4x256, .f32⟩
  | .local _ .vmem, ⟨2, _⟩ => ⟨S2x64x256, .f32⟩
  | .local _ .vmem, ⟨3, _⟩ => ⟨S16x128x4x256, .f32⟩
  | .local _ .vmem, ⟨4, _⟩ => ⟨S16x128x4x256, .f32⟩
  | _, _ => ⟨S64x256x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x16x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x256x16x4 : Shape := ⟨4, ![64, 256, 16, 4]⟩
abbrev S64x128x16x4 : Shape := ⟨4, ![64, 128, 16, 4]⟩
abbrev S64x128x16x1x4 : Shape := ⟨5, ![64, 128, 16, 1, 4]⟩
abbrev S64x128x1x16x4 : Shape := ⟨5, ![64, 128, 1, 16, 4]⟩
abbrev S64x128x16x16x4 : Shape := ⟨5, ![64, 128, 16, 16, 4]⟩
abbrev S64x128x256x4 : Shape := ⟨4, ![64, 128, 256, 4]⟩

abbrev nBuf : Space → Nat
  | .hbm => 9
  | .vmem => 0
  | .smem => 0
  | _ => 0

abbrev bufTy : (tb : Table) → Fin (tcTables nBuf tb) → BufTy
  | .hbm, ⟨0, _⟩ => ⟨S64x256x16x4, .f32⟩
  | .hbm, ⟨1, _⟩ => ⟨S64x128x16x4, .f32⟩
  | .hbm, ⟨2, _⟩ => ⟨S64x128x16x4, .f32⟩
  | .hbm, ⟨3, _⟩ => ⟨S64x128x16x1x4, .f32⟩
  | .hbm, ⟨4, _⟩ => ⟨S64x128x1x16x4, .f32⟩
  | .hbm, ⟨5, _⟩ => ⟨S64x128x16x16x4, .f32⟩
  | .hbm, ⟨6, _⟩ => ⟨S64x128x16x16x4, .f32⟩
  | .hbm, ⟨7, _⟩ => ⟨S64x128x16x16x4, .f32⟩
  | .hbm, ⟨8, _⟩ => ⟨S64x128x256x4, .f32⟩
  | _, _ => ⟨S64x256x16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Proof.Digits.lean ====
/- The printed constant tables are matches on base-128 digits: how to read one at every index at once. -/
module

public import proofs.«01_k».proof.KernelIdeal
public import Mathlib.Tactic.IntervalCases

@[expose] public section

set_option maxRecDepth 16384

noncomputable section

namespace Cert.Tables

/-- Do the words `l`, read from position `n` on, agree with `s`? -/
def agrees (s : Nat → BitVec 32) : List (BitVec 32) → Nat → Bool
  | [], _ => true
  | a :: l, n => decide (a = s n) && agrees s l (n + 1)

/-- A list that agrees with `s` from `n` on holds `s (n + c)` at its place `c`. -/
theorem agrees_get {s : Nat → BitVec 32} : ∀ {l : List (BitVec 32)} {n : Nat}, agrees s l n = true →
    ∀ (c : Nat) (h : c < l.length), l[c] = s (n + c)
  | a :: l, n, h, 0, _ => by
    simp only [agrees, Bool.and_eq_true, decide_eq_true_eq] at h
    exact h.1
  | a :: l, n, h, c + 1, hc => by
    simp only [agrees, Bool.and_eq_true, decide_eq_true_eq] at h
    have := agrees_get h.2 c (by simpa using hc)
    simpa [Nat.add_assoc, Nat.add_comm 1] using this

section Digit

variable {a0 a1 a2 a3 a4 a5 a6 a7 a8 a9 a10 a11 a12 a13 a14 a15 a16 a17 a18 a19 a20 a21 a22 a23 a24 a25 a26 a27 a28
    a29 a30 a31 a32 a33 a34 a35 a36 a37 a38 a39 a40 a41 a42 a43 a44 a45 a46 a47 a48 a49 a50 a51 a52 a53 a54 a55
    a56 a57 a58 a59 a60 a61 a62 a63 a64 a65 a66 a67 a68 a69 a70 a71 a72 a73 a74 a75 a76 a77 a78 a79 a80 a81 a82
    a83 a84 a85 a86 a87 a88 a89 a90 a91 a92 a93 a94 a95 a96 a97 a98 a99 a100 a101 a102 a103 a104 a105 a106 a107
    a108 a109 a110 a111 a112 a113 a114 a115 a116 a117 a118 a119 a120 a121 a122 a123 a124 a125 a126 a127 d : BitVec 32}

/-- The printed tables' 128-way match on a base-128 digit: what holds of every arm at its number holds at every digit. -/
theorem digit_all (P : Nat → BitVec 32 → Prop)
    (h0 : P 0 a0) (h1 : P 1 a1) (h2 : P 2 a2) (h3 : P 3 a3) (h4 : P 4 a4) (h5 : P 5 a5) (h6 : P 6 a6) (h7 : P 7
    a7) (h8 : P 8 a8) (h9 : P 9 a9) (h10 : P 10 a10) (h11 : P 11 a11) (h12 : P 12 a12) (h13 : P 13 a13) (h14 : P
    14 a14) (h15 : P 15 a15) (h16 : P 16 a16) (h17 : P 17 a17) (h18 : P 18 a18) (h19 : P 19 a19) (h20 : P 20
    a20) (h21 : P 21 a21) (h22 : P 22 a22) (h23 : P 23 a23) (h24 : P 24 a24) (h25 : P 25 a25) (h26 : P 26 a26)
    (h27 : P 27 a27) (h28 : P 28 a28) (h29 : P 29 a29) (h30 : P 30 a30) (h31 : P 31 a31) (h32 : P 32 a32) (h33 :
    P 33 a33) (h34 : P 34 a34) (h35 : P 35 a35) (h36 : P 36 a36) (h37 : P 37 a37) (h38 : P 38 a38) (h39 : P 39
    a39) (h40 : P 40 a40) (h41 : P 41 a41) (h42 : P 42 a42) (h43 : P 43 a43) (h44 : P 44 a44) (h45 : P 45 a45)
    (h46 : P 46 a46) (h47 : P 47 a47) (h48 : P 48 a48) (h49 : P 49 a49) (h50 : P 50 a50) (h51 : P 51 a51) (h52 :
    P 52 a52) (h53 : P 53 a53) (h54 : P 54 a54) (h55 : P 55 a55) (h56 : P 56 a56) (h57 : P 57 a57) (h58 : P 58
    a58) (h59 : P 59 a59) (h60 : P 60 a60) (h61 : P 61 a61) (h62 : P 62 a62) (h63 : P 63 a63) (h64 : P 64 a64)
    (h65 : P 65 a65) (h66 : P 66 a66) (h67 : P 67 a67) (h68 : P 68 a68) (h69 : P 69 a69) (h70 : P 70 a70) (h71 :
    P 71 a71) (h72 : P 72 a72) (h73 : P 73 a73) (h74 : P 74 a74) (h75 : P 75 a75) (h76 : P 76 a76) (h77 : P 77
    a77) (h78 : P 78 a78) (h79 : P 79 a79) (h80 : P 80 a80) (h81 : P 81 a81) (h82 : P 82 a82) (h83 : P 83 a83)
    (h84 : P 84 a84) (h85 : P 85 a85) (h86 : P 86 a86) (h87 : P 87 a87) (h88 : P 88 a88) (h89 : P 89 a89) (h90 :
    P 90 a90) (h91 : P 91 a91) (h92 : P 92 a92) (h93 : P 93 a93) (h94 : P 94 a94) (h95 : P 95 a95) (h96 : P 96
    a96) (h97 : P 97 a97) (h98 : P 98 a98) (h99 : P 99 a99) (h100 : P 100 a100) (h101 : P 101 a101) (h102 : P
    102 a102) (h103 : P 103 a103) (h104 : P 104 a104) (h105 : P 105 a105) (h106 : P 106 a106) (h107 : P 107
    a107) (h108 : P 108 a108) (h109 : P 109 a109) (h110 : P 110 a110) (h111 : P 111 a111) (h112 : P 112 a112)
    (h113 : P 113 a113) (h114 : P 114 a114) (h115 : P 115 a115) (h116 : P 116 a116) (h117 : P 117 a117) (h118 :
    P 118 a118) (h119 : P 119 a119) (h120 : P 120 a120) (h121 : P 121 a121) (h122 : P 122 a122) (h123 : P 123
    a123) (h124 : P 124 a124) (h125 : P 125 a125) (h126 : P 126 a126) (h127 : P 127 a127) (c : Nat) (hc : c < 128) :
    P c (Cert.KernelIdeal.lit0t0_0.match_1 (fun _ => BitVec 32) c
    (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21)
    (fun _ => a22) (fun _ => a23) (fun _ => a24) (fun _ => a25) (fun _ => a26) (fun _ => a27) (fun _ => a28)
    (fun _ => a29) (fun _ => a30) (fun _ => a31) (fun _ => a32) (fun _ => a33) (fun _ => a34) (fun _ => a35)
    (fun _ => a36) (fun _ => a37) (fun _ => a38) (fun _ => a39) (fun _ => a40) (fun _ => a41) (fun _ => a42)
    (fun _ => a43) (fun _ => a44) (fun _ => a45) (fun _ => a46) (fun _ => a47) (fun _ => a48) (fun _ => a49)
    (fun _ => a50) (fun _ => a51) (fun _ => a52) (fun _ => a53) (fun _ => a54) (fun _ => a55) (fun _ => a56)
    (fun _ => a57) (fun _ => a58) (fun _ => a59) (fun _ => a60) (fun _ => a61) (fun _ => a62) (fun _ => a63)
    (fun _ => a64) (fun _ => a65) (fun _ => a66) (fun _ => a67) (fun _ => a68) (fun _ => a69) (fun _ => a70)
    (fun _ => a71) (fun _ => a72) (fun _ => a73) (fun _ => a74) (fun _ => a75) (fun _ => a76) (fun _ => a77)
    (fun _ => a78) (fun _ => a79) (fun _ => a80) (fun _ => a81) (fun _ => a82) (fun _ => a83) (fun _ => a84)
    (fun _ => a85) (fun _ => a86) (fun _ => a87) (fun _ => a88) (fun _ => a89) (fun _ => a90) (fun _ => a91)
    (fun _ => a92) (fun _ => a93) (fun _ => a94) (fun _ => a95) (fun _ => a96) (fun _ => a97) (fun _ => a98)
    (fun _ => a99) (fun _ => a100) (fun _ => a101) (fun _ => a102) (fun _ => a103) (fun _ => a104) (fun _ =>
    a105) (fun _ => a106) (fun _ => a107) (fun _ => a108) (fun _ => a109) (fun _ => a110) (fun _ => a111) (fun _
    => a112) (fun _ => a113) (fun _ => a114) (fun _ => a115) (fun _ => a116) (fun _ => a117) (fun _ => a118)
    (fun _ => a119) (fun _ => a120) (fun _ => a121) (fun _ => a122) (fun _ => a123) (fun _ => a124) (fun _ =>
    a125) (fun _ => a126) (fun _ => a127) (fun _ => d)) := by
  interval_cases c <;> assumption

/-- The match at its last digit, whose arms are words: it holds `s (n + c)` at digit `c` if its words agree with `s` from
    `n` on. -/
theorem digit_words (s : Nat → BitVec 32) (n : Nat)
    (h : agrees s
      (a0 :: a1 :: a2 :: a3 :: a4 :: a5 :: a6 :: a7 :: a8 :: a9 :: a10 :: a11 :: a12 :: a13 :: a14 :: a15 :: a16 :: a17 :: a18 :: a19 :: a20 :: a21 :: a22 ::
      a23 :: a24 :: a25 :: a26 :: a27 :: a28 :: a29 :: a30 :: a31 :: a32 :: a33 :: a34 :: a35 :: a36 :: a37 :: a38 :: a39 :: a40 :: a41 :: a42 :: a43 ::
      a44 :: a45 :: a46 :: a47 :: a48 :: a49 :: a50 :: a51 :: a52 :: a53 :: a54 :: a55 :: a56 :: a57 :: a58 :: a59 :: a60 :: a61 :: a62 :: a63 :: a64 ::
      a65 :: a66 :: a67 :: a68 :: a69 :: a70 :: a71 :: a72 :: a73 :: a74 :: a75 :: a76 :: a77 :: a78 :: a79 :: a80 :: a81 :: a82 :: a83 :: a84 :: a85 ::
      a86 :: a87 :: a88 :: a89 :: a90 :: a91 :: a92 :: a93 :: a94 :: a95 :: a96 :: a97 :: a98 :: a99 :: a100 :: a101 :: a102 :: a103 :: a104 :: a105 ::
      a106 :: a107 :: a108 :: a109 :: a110 :: a111 :: a112 :: a113 :: a114 :: a115 :: a116 :: a117 :: a118 :: a119 :: a120 :: a121 :: a122 ::
      a123 :: a124 :: a125 :: a126 :: a127 :: []) n = true) (c : Nat) (hc : c < 128) :
    Cert.KernelIdeal.lit0t0_0.match_1 (fun _ => BitVec 32) c
    (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21)
    (fun _ => a22) (fun _ => a23) (fun _ => a24) (fun _ => a25) (fun _ => a26) (fun _ => a27) (fun _ => a28)
    (fun _ => a29) (fun _ => a30) (fun _ => a31) (fun _ => a32) (fun _ => a33) (fun _ => a34) (fun _ => a35)
    (fun _ => a36) (fun _ => a37) (fun _ => a38) (fun _ => a39) (fun _ => a40) (fun _ => a41) (fun _ => a42)
    (fun _ => a43) (fun _ => a44) (fun _ => a45) (fun _ => a46) (fun _ => a47) (fun _ => a48) (fun _ => a49)
    (fun _ => a50) (fun _ => a51) (fun _ => a52) (fun _ => a53) (fun _ => a54) (fun _ => a55) (fun _ => a56)
    (fun _ => a57) (fun _ => a58) (fun _ => a59) (fun _ => a60) (fun _ => a61) (fun _ => a62) (fun _ => a63)
    (fun _ => a64) (fun _ => a65) (fun _ => a66) (fun _ => a67) (fun _ => a68) (fun _ => a69) (fun _ => a70)
    (fun _ => a71) (fun _ => a72) (fun _ => a73) (fun _ => a74) (fun _ => a75) (fun _ => a76) (fun _ => a77)
    (fun _ => a78) (fun _ => a79) (fun _ => a80) (fun _ => a81) (fun _ => a82) (fun _ => a83) (fun _ => a84)
    (fun _ => a85) (fun _ => a86) (fun _ => a87) (fun _ => a88) (fun _ => a89) (fun _ => a90) (fun _ => a91)
    (fun _ => a92) (fun _ => a93) (fun _ => a94) (fun _ => a95) (fun _ => a96) (fun _ => a97) (fun _ => a98)
    (fun _ => a99) (fun _ => a100) (fun _ => a101) (fun _ => a102) (fun _ => a103) (fun _ => a104) (fun _ =>
    a105) (fun _ => a106) (fun _ => a107) (fun _ => a108) (fun _ => a109) (fun _ => a110) (fun _ => a111) (fun _
    => a112) (fun _ => a113) (fun _ => a114) (fun _ => a115) (fun _ => a116) (fun _ => a117) (fun _ => a118)
    (fun _ => a119) (fun _ => a120) (fun _ => a121) (fun _ => a122) (fun _ => a123) (fun _ => a124) (fun _ =>
    a125) (fun _ => a126) (fun _ => a127) (fun _ => d) = s (n + c) := by
  rw [← agrees_get h c hc]
  clear h
  interval_cases c <;> rfl

end Digit
end Cert.Tables
end
-- ==== Proof.Place.lean ====
/- The kernel's row-placing constant in closed form at every position. -/
module

public import proofs.«01_k».proof.Proof.Digits

@[expose] public section

set_option maxRecDepth 16384

noncomputable section

namespace Cert.Tables

open Cert.KernelIdeal

/-- The one-hot rows, row-major over (parity, row, column): row group `column / 16` for the even frames, `column % 16` for the odd. -/
def place (n : Nat) : BitVec 32 :=
  if n / 256 % 64 / 4 = (if n / 16384 = 0 then n % 256 / 16 else n % 16) then 0x3F800000#32 else 0#32

set_option maxHeartbeats 0 in
/-- The constant at every position. -/
theorem lit0t_eq (i : Nat) (hi : i < 32768) : lit0t i = place i := by
  have hq : i / 16384 < 2 := by omega
  have e : i = 16384 * (i / 16384) + 128 * (i / 128 % 128) + i % 128 := by omega
  have hj : i / 128 % 128 < 128 := Nat.mod_lt _ (by decide)
  have hc : i % 128 < 128 := Nat.mod_lt _ (by decide)
  suffices h : lit0t i = place (16384 * (i / 16384) + 128 * (i / 128 % 128) + i % 128) from h.trans (congrArg place e.symm)
  unfold lit0t
  generalize i / 16384 = q at hq ⊢
  clear e
  interval_cases q
  all_goals
    apply digit_all (P := fun j a => a = place (_ + 128 * j + i % 128)) (c := i / 128 % 128) (hc := hj)
    all_goals exact digit_words place _ (by decide +kernel) (i % 128) hc

end Cert.Tables

end
-- ==== Proof.Entry.lean ====
/- The arrays that the kernel's region finds, element by element. -/
module

public import proofs.«01_k».proof.Proof.Gen.KernelIdeal.Frame
public import proofs.«01_k».proof.Proof.Place
public import Idealize.ShloMosaic.Lib.Pointwise

@[expose] public section

set_option maxRecDepth 16384

noncomputable section

namespace Cert.Entry

open Cert.KernelIdeal Cert.KernelIdeal.Gen Cert.Tables Idealize.ShloMosaic Idealize.ShloMosaic.TcCoe

variable (m : (ℓ : Loc nD τ sig) → Buf (Elt Ideal) ℓ)

/-- A printed one-hot word as a number. -/
theorem ofBits_hot (p : Prop) [Decidable p] :
    FloatOps.ofBits (F := Ideal) .f32 (if p then 0x3F800000#32 else 0#32) = (if p then 1 else 0 : EReal) := by
  split
  · exact Ideal.ofBits_one_f32
  · exact Ideal.ofBits_zero_f32

/-- The placing constant as numbers. -/
theorem lit0_hot (x : Fin 32768) (n : Nat) (h : x.val = n) : FloatOps.ofBits (F := Ideal) .f32 (lit0 x)
    = (if n / 256 % 64 / 4 = (if n / 16384 = 0 then n % 256 / 16 else n % 16) then 1 else 0 : EReal) := by
  subst h
  exact (congrArg (FloatOps.ofBits (F := Ideal) .f32) (lit0t_eq x.val x.isLt)).trans (ofBits_hot _)

/-- The placing constant as the region finds it. -/
theorem placing (c : Dev nD) (s : Fin 2) (a : Fin 64) (b : Fin 256) :
    V m c main_cst (ix3 s a b)
      = (if a.val / 4 = (if s.val = 0 then b.val / 16 else b.val % 16) then 1 else 0 : EReal) := by
  have h : V m c main_cst
      = ((fun i => FloatOps.ofBits (F := Ideal) .f32 (lit0 (S2x64x256.rowMajor i))) : Vec Ideal S2x64x256 .f32) := by
    simp only [V, V0, hostOps0, List.flatten_cons, List.flatten_nil, List.append_nil, List.cons_append, List.nil_append]
    after_results
    rfl
  have hn : Fin.val (n := 32768) (S2x64x256.rowMajor (ix3 s a b)) = s.val * 16384 + a.val * 256 + b.val := by
    rw [Shape.rowMajor_val_three]; pointwise; omega
  refine (congrFun h _).trans ((lit0_hot _ _ hn).trans ?_)
  have h1 : (s.val * 16384 + a.val * 256 + b.val) / 256 % 64 = a.val := by omega
  have h2 : (s.val * 16384 + a.val * 256 + b.val) / 16384 = s.val := by omega
  have h3 : (s.val * 16384 + a.val * 256 + b.val) % 256 = b.val := by omega
  have h4 : (s.val * 16384 + a.val * 256 + b.val) % 16 = b.val % 16 := by omega
  rw [h1, h2, h3, h4]

/-- The rows as the region finds them: the argument with its frames last. -/
theorem rows (c : Dev nD) (b : Fin 64) (f : Fin 16) (r : Fin 4) (q : Fin 256) :
    V m c main_v0 (ix4 b f r q) = m ((c : Thread nD τ).loc main_arg0) (ix4 b q f r) := by
  have h : V m c main_v0 = transpose S64x16x4x256 [0, 2, 3, 1] (m ((c : Thread nD τ).loc main_arg0))
      transposes_S64x256x16x4_S64x16x4x256_0_2_3_1 := by
    simp only [V, V0, hostOps0, List.flatten_cons, List.flatten_nil, List.append_nil, List.cons_append, List.nil_append]
    after_results
  rw [h]
  pointwise

end Cert.Entry

end
-- ==== Proof.Block.lean ====
/- What the kernel stores for one batch, and what it gathers, element by element. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Block

open Cert.KernelIdeal Cert.KernelIdeal.Gen Idealize.ShloMosaic

/-- An index into 128 columns as the gather takes it: a negative one counts from the end. -/
def wrap (i : IVec S64x128 32) : IVec S64x128 32 :=
  shapeCast S64x128 (shapeCast S64x128x1
    (select (cmpi .slt i (broadcast S64x128 0#32)) (addi i (broadcast S64x128 128#32)) i) shapeCasts_S64x128_S64x128x1)
    shapeCasts_S64x128x1_S64x128

/-- 256 columns gathered out of 128, a half at a time. -/
def take (h : FVec Ideal S64x128 .f32) (i : IVec S64x256 32) : FVec Ideal S64x256 .f32 :=
  concatenate S64x256 1
    [⟨S64x128, dynamicGather 1 h (wrap (extractStridedSlice S64x128 ![0, 0] i slices_S64x256_o0_0_S64x128))⟩,
     ⟨S64x128, dynamicGather 1 h (wrap (extractStridedSlice S64x128 ![0, 128] i slices_S64x256_o0_128_S64x128))⟩]
    concatenates_S64x128_S64x128_S64x256_d1

/-- 512 columns gathered out of 256: the first half of them out of the first 128, the second out of the rest. -/
def spread (x : FVec Ideal S64x256 .f32) (i : IVec S64x256 32) : FVec Ideal S64x512 .f32 :=
  concatenate S64x512 1
    [⟨S64x256, take (extractStridedSlice S64x128 ![0, 0] x slices_S64x256_o0_0_S64x128) i⟩,
     ⟨S64x256, take (extractStridedSlice S64x128 ![0, 128] x slices_S64x256_o0_128_S64x128) i⟩]
    concatenates_S64x256_S64x256_S64x512_d1

/-- One batch's rows as a matrix. -/
def flat (z : Vec Ideal S1x16x4x256 .f32) : FVec Ideal S64x256 .f32 :=
  shapeCast S64x256 (shapeCast S16x4x256 z shapeCasts_S1x16x4x256_S16x4x256) shapeCasts_S16x4x256_S64x256

/-- One of the two products: the chosen columns, masked, against a row placement. -/
def half (k : FVec Ideal S64x512 .f32) (i : IVec S64x256 32) (z : Vec Ideal S1x16x4x256 .f32) (v : Vec Ideal S1x64x256 .f32) :
    FVec Ideal S512x256 .f32 :=
  matmul dot_S64x512_S64x256_S512x256_0_0_1_1_n_n none (mulf (spread (flat z) i) k)
    (shapeCast S64x256 v shapeCasts_S1x64x256_S64x256 : FVec Ideal S64x256 .f32) (constant S512x256 .f32 0x00000000#32)

/-- One batch's stored block. -/
def stored (k : FVec Ideal S64x512 .f32) (e o : IVec S64x256 32) (z : Vec Ideal S1x16x4x256 .f32) (v w : Vec Ideal S1x64x256 .f32) :
    FVec Ideal S1x128x4x256 .f32 :=
  shapeCast S1x128x4x256 (shapeCast S128x4x256 (addf (half k e z v) (half k o z w)) shapeCasts_S512x256_S128x4x256)
    shapeCasts_S128x4x256_S1x128x4x256

/-- An index that is a number below 128 stays. -/
theorem wrap_apply (i : IVec S64x128 32) (a : Fin 64) (b : Fin 128) (n : Fin 128) (h : i (ix2 a b) = BitVec.ofNat 32 n.val) :
    wrap i (ix2 a b) = BitVec.ofNat 32 n.val := by
  pointwise [wrap]
  simp only [h]
  clear h
  revert n
  decide +kernel

/-- A gathered element, where the index is a number below 128. -/
theorem take_apply (h : FVec Ideal S64x128 .f32) (i : IVec S64x256 32) (a : Fin 64) (b : Fin 256) (n : Fin 128)
    (hi : i (ix2 a b) = BitVec.ofNat 32 n.val) : take h i (ix2 a b) = h (ix2 a n) := by
  have hn : (BitVec.ofNat 32 n.val).toNat % 128 = n.val := by
    rw [BitVec.toNat_ofNat]
    omega
  pointwise [take]
  by_cases hb : b.val < 128
  · rw [dif_pos hb]
    simp only [wrap_apply (extractStridedSlice S64x128 ![0, 0] i slices_S64x256_o0_0_S64x128) a ⟨b.val, hb⟩ n
      (by pointwise; exact hi), hn]
  · rw [dif_neg hb]
    have hc : b.val - 128 < 128 := by omega
    have he : (⟨128 + (b.val - 128), by omega⟩ : Fin 256) = b := Fin.ext (by show 128 + (b.val - 128) = b.val; omega)
    simp only [wrap_apply (extractStridedSlice S64x128 ![0, 128] i slices_S64x256_o0_128_S64x128) a ⟨b.val - 128, hc⟩ n
      (by pointwise; rw [he]; exact hi), hn]

/-- Column `b` of the gathered 512 is frame `2 (b / 4) + s`. -/
theorem spread_apply (x : FVec Ideal S64x256 .f32) (i : IVec S64x256 32) (s : Fin 2)
    (hi : ∀ (a : Fin 64) (b : Fin 256), i (ix2 a b) = BitVec.ofNat 32 (2 * (b.val / 4) + s.val)) (a : Fin 64) (b : Fin 512) :
    spread x i (ix2 a b) = x (ix2 a ⟨2 * (b.val / 4) + s.val, by omega⟩) := by
  have ht : ∀ (h : FVec Ideal S64x128 .f32) (d : Fin 256),
      take h i (ix2 a d) = h (ix2 a ⟨2 * (d.val / 4) + s.val, by omega⟩) := fun h d => take_apply h i a d ⟨_, by omega⟩ (hi a d)
  pointwise [spread]
  simp only [ht]
  pointwise
  split
  · rfl
  · exact congrArg (fun n => x (ix2 a n)) (Fin.ext (by show 128 + (2 * ((b.val - 256) / 4) + s.val) = 2 * (b.val / 4) + s.val; omega))

/-- A sum whose terms are kept at one index only. -/
theorem sum_keep {n : Nat} (f : Fin n → EReal) (p : Fin n → Prop) [DecidablePred p] (k : Fin n) (hp : ∀ j, p j ↔ j = k) :
    ∑ j, (if p j then f j else 0) = f k := by
  simp only [hp, Finset.sum_ite_eq', Finset.mem_univ, if_true]

/-- The row `4 t + r` picked out of `X` by two one-hot factors. -/
theorem sum_pick (X : Fin 64 → EReal) (t r : Nat) (ht : t < 16) (hr : r < 4) :
    ∑ j : Fin 64, X j * (if j.val % 4 = r then 1 else 0) * (if j.val / 4 = t then 1 else 0) = X ⟨4 * t + r, by omega⟩ := by
  simp only [mul_ite, mul_one, mul_zero, ← ite_and]
  exact sum_keep X (fun j => j.val / 4 = t ∧ j.val % 4 = r) ⟨4 * t + r, by omega⟩ fun j => by simp only [Fin.ext_iff]; omega

/-- One product: frame `2 g + s` at the row group `p q` that its placement names. -/
theorem half_apply (k : FVec Ideal S64x512 .f32) (i : IVec S64x256 32) (z : Vec Ideal S1x16x4x256 .f32)
    (v : Vec Ideal S1x64x256 .f32) (s : Fin 2) (p : Fin 256 → Nat) (hp : ∀ q, p q < 16)
    (hk : ∀ (a : Fin 64) (b : Fin 512), k (ix2 a b) = if a.val % 4 = b.val % 4 then 1 else 0)
    (hi : ∀ (a : Fin 64) (b : Fin 256), i (ix2 a b) = BitVec.ofNat 32 (2 * (b.val / 4) + s.val))
    (hv : ∀ (a : Fin 64) (b : Fin 256), v (ix3 0 a b) = if a.val / 4 = p b then 1 else 0)
    (g : Fin 128) (r : Fin 4) (q : Fin 256) (n : Fin 512) (hn : n.val = g.val * 4 + r.val) :
    half k i z v (ix2 n q) = z (ix4 0 ⟨p q, hp q⟩ r ⟨2 * g.val + s.val, by omega⟩) := by
  have hm : n.val % 4 = r.val := by omega
  have hd : n.val / 4 = g.val := by omega
  pointwise [half]
  simp only [spread_apply _ i s hi, hk, hv, hm, hd]
  rw [sum_pick (fun j => flat z (ix2 j ⟨2 * g.val + s.val, by omega⟩)) (p q) r.val (hp q) r.isLt]
  pointwise [flat]
  exact congrArg (fun n => z (ix4 0 n r ⟨2 * g.val + s.val, by omega⟩)) (Fin.ext (by show (4 * p q + r.val) / 4 = p q; omega))

/-- One batch's block, from its mask, its two frame choices, its rows and its two row placements. -/
theorem stored_apply (k : FVec Ideal S64x512 .f32) (e o : IVec S64x256 32) (z : Vec Ideal S1x16x4x256 .f32)
    (v w : Vec Ideal S1x64x256 .f32)
    (hk : ∀ (a : Fin 64) (b : Fin 512), k (ix2 a b) = if a.val % 4 = b.val % 4 then 1 else 0)
    (he : ∀ (a : Fin 64) (b : Fin 256), e (ix2 a b) = BitVec.ofNat 32 (2 * (b.val / 4)))
    (ho : ∀ (a : Fin 64) (b : Fin 256), o (ix2 a b) = BitVec.ofNat 32 (2 * (b.val / 4) + 1))
    (hv : ∀ (a : Fin 64) (b : Fin 256), v (ix3 0 a b) = if a.val / 4 = b.val / 16 then 1 else 0)
    (hw : ∀ (a : Fin 64) (b : Fin 256), w (ix3 0 a b) = if a.val / 4 = b.val % 16 then 1 else 0)
    (g : Fin 128) (r : Fin 4) (q : Fin 256) :
    stored k e o z v w (ix4 0 g r q)
      = (z (ix4 0 ⟨q.val / 16, by omega⟩ r ⟨2 * g.val, by omega⟩)
        + z (ix4 0 ⟨q.val % 16, by omega⟩ r ⟨2 * g.val + 1, by omega⟩) : EReal) := by
  pointwise [stored]
  rw [half_apply k e z v 0 (fun q => q.val / 16) (fun q => by omega) hk he hv g r q _ rfl,
    half_apply k o z w 1 (fun q => q.val % 16) (fun q => by omega) hk ho hw g r q _ rfl]
  rfl

end Cert.Block

end
-- ==== Proof.Words.lean ====
/- The integer arrays that the kernel's body makes: its mask and its two frame choices. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Block

open Cert.KernelIdeal Cert.KernelIdeal.Gen Idealize.ShloMosaic

/-- The body's mask. -/
def mask : FVec Ideal S64x512 .f32 := k0_pay1 (F := Ideal)

/-- The frames that the body chooses for the first term: twice the column's group of four. -/
def even : IVec S64x256 32 := k0_pay5 (iota .tc S64x256 32 [1] iota_S64x256_d1_w32) 4#32 k0_pay2 k0_pay3 k0_pay4

/-- The frames that the body chooses for the second term: the ones after those. -/
def odd : IVec S64x256 32 := k0_pay6 (iota .tc S64x256 32 [1] iota_S64x256_d1_w32) 4#32 k0_pay2 k0_pay3 k0_pay4

/-- Column `b`'s choice for the first term. -/
theorem even_apply (a : Fin 64) (b : Fin 256) : even (ix2 a b) = BitVec.ofNat 32 (2 * (b.val / 4)) := by
  pointwise [even, k0_pay5, k0_pay2, k0_pay3, k0_pay4]
  revert b
  decide +kernel

/-- Column `b`'s choice for the second term. -/
theorem odd_apply (a : Fin 64) (b : Fin 256) : odd (ix2 a b) = BitVec.ofNat 32 (2 * (b.val / 4) + 1) := by
  have h : odd (ix2 a b) = even (ix2 a b) + 1#32 := rfl
  rw [h, even_apply]
  clear h
  revert b
  decide +kernel

/-- The remainder by four as the body computes it, of one word. -/
def rest (x : BitVec 32) : BitVec 32 :=
  let d := Scalar.select (Scalar.cmpi .eq 4#32 0#32) 1#32 4#32
  Scalar.select
    (IntOp.andi (IntOp.xori (IntOp.cmpi .slt (IntOp.remsi ArithUnit.vector x d) 0#32) (Scalar.cmpi .slt d 0#32))
      (IntOp.cmpi .ne (IntOp.remsi ArithUnit.vector x d) 0#32))
    (IntOp.addi (IntOp.remsi ArithUnit.vector x d) d) (IntOp.remsi ArithUnit.vector x d)

/-- It is the remainder, of every number below 512. -/
theorem rest_eq : ∀ n : Fin 512, rest (BitVec.ofNat 32 n.val) = BitVec.ofNat 32 (n.val % 4) := by decide +kernel

/-- The bit of an equality of remainders, as a number. -/
theorem bit_eq : ∀ x y : Fin 4, (BitVec.setWidth 32 (IntOp.cmpi .eq (BitVec.ofNat 32 x.val) (BitVec.ofNat 32 y.val))).toInt
    = if x.val = y.val then 1 else 0 := by decide +kernel

/-- The mask keeps the places whose row and column have one remainder by four. -/
theorem mask_apply (a : Fin 64) (b : Fin 512) : mask (ix2 a b) = (if a.val % 4 = b.val % 4 then 1 else 0 : EReal) := by
  pointwise [mask, k0_pay1]
  show (((BitVec.setWidth 32 (IntOp.cmpi .eq (rest (BitVec.ofNat 32 a.val)) (rest (BitVec.ofNat 32 b.val)))).toInt : ℝ) : EReal) = _
  have ha := rest_eq ⟨a.val, by omega⟩
  have hb := rest_eq b
  have hc := bit_eq ⟨a.val % 4, by omega⟩ ⟨b.val % 4, by omega⟩
  dsimp only at ha hb hc
  rw [ha, hb, hc]
  split <;> simp

end Cert.Block

end
-- ==== Proof.Array.lean ====
/- The array that the kernel leaves, element by element. -/
module

public import proofs.«01_k».proof.Proof.Entry
public import proofs.«01_k».proof.Proof.Block
public import proofs.«01_k».proof.Proof.Words

@[expose] public section

set_option maxRecDepth 16384

noncomputable section

namespace Cert.Block

open Cert.KernelIdeal Cert.KernelIdeal.Gen Idealize.ShloMosaic Idealize.ShloMosaic.TcCoe

/-- The element at batch `b`, pair `g`, feature `r`, column `q`: the even frame at `q / 16` and the odd one at `q % 16`. -/
def pair (X : Vec Ideal S64x256x16x4 .f32) (b : Fin 64) (g : Fin 128) (r : Fin 4) (q : Fin 256) : EReal :=
  X (ix4 b ⟨2 * g.val, by omega⟩ ⟨q.val / 16, by omega⟩ r) + X (ix4 b ⟨2 * g.val + 1, by omega⟩ ⟨q.val % 16, by omega⟩ r)

/-- The array of those elements, the features before the columns. -/
def pairs (X : Vec Ideal S64x256x16x4 .f32) : Vec Ideal S64x128x4x256 .f32 := fun i => pair X (i 0) (i 1) (i 2) (i 3)

variable (m : (ℓ : Loc nD τ sig) → Buf (Elt Ideal) ℓ)

/-- Point `t`'s window of the rows is the `t`-th. -/
theorem index_x : ∀ t : Fin grid0.N, win0_0.index t = ![t.val, 0, 0, 0] := by decide +kernel

/-- The placing constant is loaded whole. -/
theorem index_w : ∀ t : Fin grid0.N, win0_1.index t = ![0, 0, 0] := by decide +kernel

/-- Point `t`'s window of the result is the `t`-th. -/
theorem index_out : ∀ t : Fin grid0.N, win0_2.index t = ![t.val, 0, 0, 0] := by decide +kernel

/-- There are four points. -/
theorem points (t : Fin cfg0.N) : t.val < 4 := N_0 ▸ t.isLt

/-- Point `t`'s rows: batches `16 t` to `16 t + 15` of the argument. -/
theorem block_x (c : Dev nD) (t : Fin cfg0.N) (b : Fin 16) (f : Fin 16) (r : Fin 4) (q : Fin 256) :
    iblk m c 0 t (ix4 b f r q)
      = m ((c : Thread nD τ).loc main_arg0) (ix4 (⟨t.val * 16 + b.val, by have := points t; omega⟩ : Fin 64) q f r) := by
  refine Eq.trans ?_ (Entry.rows m c _ f r q)
  show V m c main_v0 _ = V m c main_v0 _
  refine congrArg _ (funext fun a => Fin.ext ?_)
  fin_cases a <;> blk_simp [index_x] <;> simp

/-- The placing constant, loaded whole. -/
theorem block_w (c : Dev nD) (t : Fin cfg0.N) (i : S2x64x256.Idx) : iblk m c 1 t i = V m c main_cst i := by
  show V m c main_cst _ = V m c main_cst _
  refine congrArg _ (funext fun a => Fin.ext ?_)
  fin_cases a <;> blk_simp [index_w] <;> simp

/-- What one store writes, from the placing constant and the rows that it loads. -/
def piece (w : Vec Ideal S2x64x256 .f32) (z : Vec Ideal S1x16x4x256 .f32) :
    FVec Ideal S1x128x4x256 .f32 :=
  stored mask even odd z (View.ld w r0_1) (View.ld w r0_2)

/-- The body's stores, each the same function of the rows that it loads. -/
theorem out_eq (x : Vec Ideal S16x16x4x256 .f32) (w : Vec Ideal S2x64x256 .f32) :
    out0_2 x w = View.canon [⟨r0_33, piece w (View.ld x r0_32)⟩, ⟨r0_31, piece w (View.ld x r0_30)⟩,
      ⟨r0_29, piece w (View.ld x r0_28)⟩, ⟨r0_27, piece w (View.ld x r0_26)⟩, ⟨r0_25, piece w (View.ld x r0_24)⟩,
      ⟨r0_23, piece w (View.ld x r0_22)⟩, ⟨r0_21, piece w (View.ld x r0_20)⟩, ⟨r0_19, piece w (View.ld x r0_18)⟩,
      ⟨r0_17, piece w (View.ld x r0_16)⟩, ⟨r0_15, piece w (View.ld x r0_14)⟩, ⟨r0_13, piece w (View.ld x r0_12)⟩,
      ⟨r0_11, piece w (View.ld x r0_10)⟩, ⟨r0_9, piece w (View.ld x r0_8)⟩, ⟨r0_7, piece w (View.ld x r0_6)⟩,
      ⟨r0_5, piece w (View.ld x r0_4)⟩, ⟨r0_3, piece w (View.ld x r0_0)⟩] := by
  rfl

/-- What batch `b` of point `t` stores, given the rows that it loads. -/
theorem piece_apply (c : Dev nD) (t : Fin cfg0.N) (b : Fin 16) (z : Vec Ideal S1x16x4x256 .f32)
    (hz : ∀ (f : Fin 16) (r : Fin 4) (q : Fin 256), z (ix4 0 f r q) = iblk m c 0 t (ix4 b f r q))
    (x : S1x128x4x256.Idx) (i : S64x128x4x256.Idx) (h0 : (i 0).val = t.val * 16 + b.val) (h1 : (i 1).val = (x 1).val)
    (h2 : (i 2).val = (x 2).val) (h3 : (i 3).val = (x 3).val) :
    piece (iblk m c 1 t) z x = pairs (m ((c : Thread nD τ).loc main_arg0)) i := by
  have hb : t.val * 16 + b.val < 64 := by
    have := points t
    have := b.isLt
    clear h0
    omega
  idx_vars x
  idx_vars i
  obtain rfl : x0 = 0 := Subsingleton.elim _ _
  obtain rfl : i0 = (⟨t.val * 16 + b.val, hb⟩ : Fin 64) := Fin.ext h0
  obtain rfl : i1 = x1 := Fin.ext h1
  obtain rfl : i2 = x2 := Fin.ext h2
  obtain rfl : i3 = x3 := Fin.ext h3
  refine (stored_apply _ _ _ _ _ _ mask_apply even_apply odd_apply ?_ ?_ _ _ _).trans ?_
  · intro a d
    pointwise
    rw [block_w]
    exact Entry.placing m c 0 _ _
  · intro a d
    pointwise
    rw [block_w]
    exact Entry.placing m c 1 _ _
  · rw [hz, hz, block_x, block_x]
    rfl

/-- The array after the run. -/
theorem array_eq (c : Dev nD) : (dats m 0 c).arrAt 2 (cfgs 0).N = pairs (m ((c : Thread nD τ).loc main_arg0)) := by
  refine (dats m 0 c).arrAt_eq_of_covers 2 _ (by decide +kernel) fun t hf y => ?_
  blk_simp
  rw [after0_2, out_eq]
  have e0 : (((win0_2.blk t).view.emb y) 0).val = t.val * 16 + (y 0).val := by blk_simp [index_out]
  have e1 : (((win0_2.blk t).view.emb y) 1).val = (y 1).val := by blk_simp [index_out]
  have e2 : (((win0_2.blk t).view.emb y) 2).val = (y 2).val := by blk_simp [index_out]
  have e3 : (((win0_2.blk t).view.emb y) 3).val = (y 3).val := by blk_simp [index_out]
  generalize (win0_2.blk t).view.emb y = i at e0 e1 e2 e3 ⊢
  obtain ⟨b, hb⟩ : ∃ b : Fin 16, b.val = (y 0).val := ⟨y 0, rfl⟩
  canon_tiles x h
  all_goals
    refine piece_apply m c t b _ (fun f r q => ?_) x i (e0.trans (congrArg _ hb.symm)) (e1.trans h1) (e2.trans h2) (e3.trans h3)
    pointwise
    refine congrArg (fun n => iblk m c 0 t (ix4 n f r q)) (Fin.ext ?_)
    rw [Nat.lt_one_iff.mp x0_lt] at h0
    exact (hb.trans h0).symm

end Cert.Block

end
-- ==== Proof.Final.lean ====
/- The kernel's result and the reference's are the same array. -/
module

public import proofs.«01_k».proof.Proof.Array
public import proofs.«01_k».proof.Proof.Gen.ReferenceIdeal.Run
public import Idealize.ShloMosaic.Lib.Claim

@[expose] public section

set_option maxRecDepth 16384

noncomputable section

namespace Cert.Block

open Cert.KernelIdeal Cert.KernelIdeal.Gen Idealize.ShloMosaic Idealize.ShloMosaic.TcCoe Idealize.SL.Sem

/-- The result as the kernel returns it: the columns before the features. -/
def result (X : Vec Ideal S64x256x16x4 .f32) : Vec Ideal S64x128x256x4 .f32 :=
  transpose S64x128x256x4 [0, 1, 3, 2] (pairs X) transposes_S64x128x4x256_S64x128x256x4_0_1_3_2

/-- One element of it. -/
theorem result_apply (X : Vec Ideal S64x256x16x4 .f32) (b : Fin 64) (g : Fin 128) (q : Fin 256) (r : Fin 4) :
    result X (ix4 b g q r) = pair X b g r q := by
  unfold result
  pointwise
  rfl

/-- The kernel ends with that result, its argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) := by
  refine (θ_run defs _ _).mono (fun r h c => ⟨?_, ?_⟩) (run_main m ρ)
  · refine ((h c).2 main_v2 (Pipeline.mem_restRefs_of main_v2 (by decide) (by decide))).trans ?_
    unfold Pipeline.afterTail₀
    simp only [hostOps1, List.flatten_cons, List.flatten_nil, List.append_nil, List.cons_append, List.nil_append]
    after_results
    exact congrArg (fun Y => transpose S64x128x256x4 [0, 1, 3, 2] Y transposes_S64x128x4x256_S64x128x256x4_0_1_3_2)
      ((Pipeline.withArrays_arr (cfgs 0).spec (by decide) c (V0 m c) (fun w => (dats m 0 c).arrAt w (cfgs 0).N) 2).trans (array_eq m c))
  · exact ((h c).2 main_arg0 (Pipeline.mem_restRefs_of main_arg0 (by decide) (by decide))).trans (W_main_arg0 m (dats m) c)

end Cert.Block

namespace Cert.ReferenceIdeal.Value

open Cert.ReferenceIdeal Cert.ReferenceIdeal.Gen Idealize.ShloMosaic Idealize.ShloMosaic.TcCoe

/-- The reference's result is the kernel's. -/
theorem equation (X : Vec Ideal S64x256x16x4 .f32) :
    shapeCast S64x128x256x4 (addf (F := Ideal) (φ := .f32)
      (broadcastInDim S64x128x16x16x4 ![0, 1, 2, 3, 4] bcast_S64x128x16x1x4_S64x128x16x16x4_0_1_2_3_4
        (broadcastInDim S64x128x16x1x4 ![0, 1, 2, 4] bcast_S64x128x16x4_S64x128x16x1x4_0_1_2_4
          (Host.slice S64x128x16x4 ![0, 0, 0, 0] ![1, 2, 1, 1] X slicesBy_S64x256x16x4_S64x128x16x4_0s1_0s2_0s1_0s1)))
      (broadcastInDim S64x128x16x16x4 ![0, 1, 2, 3, 4] bcast_S64x128x1x16x4_S64x128x16x16x4_0_1_2_3_4
        (broadcastInDim S64x128x1x16x4 ![0, 1, 3, 4] bcast_S64x128x16x4_S64x128x1x16x4_0_1_3_4
          (Host.slice S64x128x16x4 ![0, 1, 0, 0] ![1, 2, 1, 1] X slicesBy_S64x256x16x4_S64x128x16x4_0s1_1s2_0s1_0s1))))
      shapeCasts_S64x128x16x16x4_S64x128x256x4 = Cert.Block.result X := by
  funext i
  idx_vars i
  rw [Cert.Block.result_apply]
  pointwise [Cert.Block.pair]
  simp only [Nat.add_comm 1]

end Cert.ReferenceIdeal.Value

end
-- ==== Proof.lean ====
/- The claims: every program runs to its end, and the idealized kernel's result is its reference's. -/
module

public import proofs.«01_k».proof.Defs
public import proofs.«01_k».proof.Proof.Final
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its argument unchanged and every counter at zero. -/
theorem quiet_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result and the reference's are one array. -/
theorem same_result : Cert.algebraic_KernelIdeal_ReferenceIdeal := fun m g m' g' _ hagree =>
  ⟨fun c => Cert.Block.result (m ((c.tc : Thread Cert.KernelIdeal.nD Cert.KernelIdeal.τ).loc Cert.KernelIdeal.main_arg0)),
    Cert.Block.run m g,
    (θ_run Cert.ReferenceIdeal.defs _ _).mono
      (fun r h c => ⟨(h c).1.trans (by rw [hagree c]; exact Cert.ReferenceIdeal.Value.equation _), (h c).2⟩)
      (Cert.ReferenceIdeal.Value.run (F := Ideal) m' g')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, quiet_reference, trivial, same_result⟩

end Cert.Proof

end
